-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S25600x8192 : Shape := ⟨2, ![25600, 8192]⟩
abbrev S8192x8192 : Shape := ⟨2, ![8192, 8192]⟩
abbrev S8192x64 : Shape := ⟨2, ![8192, 64]⟩
abbrev S2560x1024 : Shape := ⟨2, ![2560, 1024]⟩
abbrev S1024x1024 : Shape := ⟨2, ![1024, 1024]⟩
abbrev S1024x64 : Shape := ⟨2, ![1024, 64]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 13
  | .smem => 0
  | _ => 0

abbrev bufTy : (tb : Table) → Fin (tcTables nBuf tb) → BufTy
  | .hbm, ⟨0, _⟩ => ⟨S25600x8192, .bf16⟩
  | .hbm, ⟨1, _⟩ => ⟨S25600x8192, .bf16⟩
  | .hbm, ⟨2, _⟩ => ⟨S8192x8192, .f32⟩
  | .hbm, ⟨3, _⟩ => ⟨S8192x8192, .i8⟩
  | .hbm, ⟨4, _⟩ => ⟨S8192x64, .f32⟩
  | .hbm, ⟨5, _⟩ => ⟨S8192x8192, .f32⟩
  | .local _ .vmem, ⟨0, _⟩ => ⟨S2560x1024, .bf16⟩
  | .local _ .vmem, ⟨1, _⟩ => ⟨S2560x1024, .bf16⟩
  | .local _ .vmem, ⟨2, _⟩ => ⟨S2560x1024, .bf16⟩
  | .local _ .vmem, ⟨3, _⟩ => ⟨S2560x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .i8⟩
  | .local _ .vmem, ⟨7, _⟩ => ⟨S1024x1024, .i8⟩
  | .local _ .vmem, ⟨8, _⟩ => ⟨S1024x64, .f32⟩
  | .local _ .vmem, ⟨9, _⟩ => ⟨S1024x64, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S25600x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 10], ![false, false, false]⟩

def k0_cond3 (i : grid0.Coords) : BitVec 1 :=
  let arg2 : BitVec 32 := BitVec.ofNat 32 (i 2).val
  let c9_i32 : BitVec 32 := 9#32
  let v16 : BitVec 1 := Scalar.cmpi .eq arg2 c9_i32
  let v17 : BitVec 32 := Scalar.extui v16
  let c0_i32_11 : BitVec 32 := 0#32
  let v18 : BitVec 1 := Scalar.cmpi .ne v17 c0_i32_11
  v18

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2560x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2560x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceIdeal.lean ====
abbrev S25600x8192 : Shape := ⟨2, ![25600, 8192]⟩
abbrev S8192x8192 : Shape := ⟨2, ![8192, 8192]⟩
abbrev S8192x64 : Shape := ⟨2, ![8192, 64]⟩
abbrev S8192x64x128 : Shape := ⟨3, ![8192, 64, 128]⟩
abbrev S8192x64x1 : Shape := ⟨3, ![8192, 64, 1]⟩

abbrev nBuf : Space → Nat
  | .hbm => 8
  | .vmem => 4
  | .smem => 0
  | _ => 0

abbrev bufTy : (tb : Table) → Fin (tcTables nBuf tb) → BufTy
  | .hbm, ⟨0, _⟩ => ⟨S25600x8192, .bf16⟩
  | .hbm, ⟨1, _⟩ => ⟨S25600x8192, .bf16⟩
  | .hbm, ⟨2, _⟩ => ⟨S8192x8192, .f32⟩
  | .hbm, ⟨3, _⟩ => ⟨S8192x8192, .f32⟩
  | .hbm, ⟨4, _⟩ => ⟨S8192x8192, .f32⟩
  | .hbm, ⟨5, _⟩ => ⟨S8192x8192, .i8⟩
  | .hbm, ⟨6, _⟩ => ⟨S8192x64, .f32⟩
  | .hbm, ⟨7, _⟩ => ⟨S8192x8192, .f32⟩
  | .local _ .vmem, ⟨0, _⟩ => ⟨S8192x8192, .f32⟩
  | .local _ .vmem, ⟨1, _⟩ => ⟨S8192x8192, .i8⟩
  | .local _ .vmem, ⟨2, _⟩ => ⟨S8192x64, .f32⟩
  | .local _ .vmem, ⟨3, _⟩ => ⟨S8192x8192, .f32⟩
  | _, _ => ⟨S25600x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S8192x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x8192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Tile.lean ====
module

public import proofs.«01_k».proof.Proof.Gen.KernelIdeal.Skeleton
public import Idealize.ShloMosaic.Lib.Pipeline.Value

/-!
What the kernel's last step of a tile computes from one block of 128 columns, as vector functions of that block: the
kernel writes the same lines eight times, once per block, and every one of the eight is an instance of these.
-/

@[expose] public section

set_option maxRecDepth 16384

noncomputable section

namespace Cert.KernelIdeal.Tile

open Cert.KernelIdeal Cert.KernelIdeal.Gen Idealize.ShloMosaic

variable {F : FTy → Type} [FloatOps F]

/-- The rectangle of column block `b` of a 1024 by 1024 tile. -/
abbrev col (b : Fin 8) : Rect S1024x1024 :=
  Rect.unit (s := S1024x1024) ![0, 128 * b.val] S1024x128.size (fun a => match a with
    | ⟨0, _⟩ => by show 0 + 1024 ≤ 1024; omega
    | ⟨1, _⟩ => by show 128 * b.val + 128 ≤ 1024; omega)

/-- The accumulated products plus the carried error, on column block `b`. -/
def sumOn (A E : Vec F S1024x1024 .f32) (b : Fin 8) : FVec F S1024x128 .f32 :=
  addf (View.ld A (col b)) (View.ld E (col b))

/-- The largest magnitude of every row of a block. -/
def amaxOf (v : FVec F S1024x128 .f32) : FVec F S1024x1 .f32 :=
  shapeCast S1024x1 (multiReduction .maximumf [1] S1024 (absf v) 0xFF800000#32 reduces_S1024x128_S1024 (.inl rfl) rfl) shapeCasts_S1024_S1024x1

/-- The scale of every row of a block. -/
def scaleOf (v : FVec F S1024x128 .f32) : FVec F S1024x1 .f32 :=
  select (cmpf .oeq (amaxOf v) (broadcast S1024x1 (Scalar.ofBits .f32 0x00000000#32)))
    (broadcast S1024x1 (Scalar.ofBits .f32 0x3F800000#32)) (divf (amaxOf v) (broadcast S1024x1 (Scalar.ofBits .f32 0x42FE0000#32)))

/-- The levels of a block: every value over its row's scale, rounded and clipped. -/
def levelOf (v : FVec F S1024x128 .f32) : FVec F S1024x128 .f32 :=
  minimumf (broadcast S1024x128 (Scalar.ofBits .f32 0x42FE0000#32)) (maximumf (broadcast S1024x128 (Scalar.ofBits .f32 0xC2FE0000#32))
    (roundeven (divf v (broadcastTo S1024x128 (scaleOf v) broadcasts_S1024x1_S1024x128))))

/-- The int8 codes of a block. -/
def codeOf (v : FVec F S1024x128 .f32) : IVec S1024x128 8 := fptosi 8 (levelOf v)

/-- What the levels of a block leave behind. -/
def restOf (v : FVec F S1024x128 .f32) : FVec F S1024x128 .f32 :=
  subf v (mulf (levelOf v) (broadcastTo S1024x128 (scaleOf v) broadcasts_S1024x1_S1024x128))

/-- The scales buffer `S` with the scales of a block put into the lane numbered `w`. -/
def put (w : BitVec 32) (S : FVec F S1024x64 .f32) (v : FVec F S1024x128 .f32) : FVec F S1024x64 .f32 :=
  select (cmpi .eq (iota .tc S1024x64 32 [1] iota_S1024x64_d1_w32) (broadcast S1024x64 w))
    (broadcastTo S1024x64 (shapeCast S1024x1 (scaleOf v) shapeCasts_S1024x1_S1024x1) broadcasts_S1024x1_S1024x64) S

end Cert.KernelIdeal.Tile

end
-- ==== Proof.Cases.lean ====
module

public import proofs.«01_k».proof.Proof.Gen.KernelIdeal.Value
public import proofs.«01_k».proof.Proof.Tile
public import Idealize.ShloMosaic.Lib.Pipeline.ReadBack
public import Idealize.ShloMosaic.Lib.Pipeline.ValueKit

@[expose] public section

set_option maxRecDepth 16384

noncomputable section

namespace Cert.KernelIdeal.Cases

open Cert.KernelIdeal Cert.KernelIdeal.Gen Cert.KernelIdeal.Tile Idealize.ShloMosaic Idealize.ShloMosaic.TcCoe Idealize.SL.Sem
variable {F : FTy → Type} [FloatOps F]

section
variable (c : Dev nD) (i : grid0.Coords) (arg3 : Memref sig .tc .vmem S2560x1024 .bf16) (harg3 : arg3.IsWhole) (arg4 : Memref sig .tc .vmem S2560x1024 .bf16) (harg4 : arg4.IsWhole) (arg5 : Memref sig .tc .vmem S1024x1024 .f32) (harg5 : arg5.IsWhole) (arg6 : Memref sig .tc .vmem S1024x1024 .i8) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole)
    (x0 : Vec F S2560x1024 .bf16) (x1 : Vec F S2560x1024 .bf16) (x2 : Vec F S1024x1024 .f32) (xo4 : Vec F S1024x64 .f32) (xs0 : Vec F S1024x1024 .f32)

/-- The stores into the codes block at the last contraction step: eight column blocks of int8 codes. -/
theorem pieces_C_3 (hc0 : ¬cond0_0 i) (hc1 : ¬cond0_1 i) (hc2 : cond0_2 i) :
    (kernelRun0_C c i arg3 harg3 arg4 harg4 arg5 harg5 arg6 harg6 arg7 harg7 arg8 harg8 arg9 harg9 hc0 hc1 hc2 x0 x1 x2 xo4 xs0).1
      = ([7, 6, 5, 4, 3, 2, 1, 0] : List (Fin 8)).map (fun b => ⟨col b, codeOf (sumOn (k0_pay3 xs0 x0 x1) x2 b)⟩) := by
  unfold kernelRun0_C
  dsimp only
  sl_unfold_words
  simp only [View.readAt_eq_ld, harg3.read_unread, harg4.read_unread, harg5.read_unread, harg7.read_unread, harg9.read_unread,
    View.ld_unit_zero (S := S1024x1024) (off := ![0, 0]) (by decide), View.ld_unit_zero (S := S2560x1024) (off := ![0, 0]) (by decide),
    View.ld_unit_zero (S := S1024x64) (off := ![0, 0]) (by decide)]
  have h0 : ∀ a, (![0, 0] : Fin 2 → Nat) a = 0 := by decide
  simp only [View.readCov_fill (s := S1024x1024) arg9.view (off := ![0, 0]) _ _ _ _ h0]
  rfl

/-- The stores into the error block at the last contraction step: eight column blocks of what the levels leave behind. -/
theorem pieces_C_5 (hc0 : ¬cond0_0 i) (hc1 : ¬cond0_1 i) (hc2 : cond0_2 i) :
    (kernelRun0_C c i arg3 harg3 arg4 harg4 arg5 harg5 arg6 harg6 arg7 harg7 arg8 harg8 arg9 harg9 hc0 hc1 hc2 x0 x1 x2 xo4 xs0).2.2.1
      = ([7, 6, 5, 4, 3, 2, 1, 0] : List (Fin 8)).map (fun b => ⟨col b, restOf (sumOn (k0_pay3 xs0 x0 x1) x2 b)⟩) := by
  unfold kernelRun0_C
  dsimp only
  sl_unfold_words
  simp only [View.readAt_eq_ld, harg3.read_unread, harg4.read_unread, harg5.read_unread, harg7.read_unread, harg9.read_unread,
    View.ld_unit_zero (S := S1024x1024) (off := ![0, 0]) (by decide), View.ld_unit_zero (S := S2560x1024) (off := ![0, 0]) (by decide),
    View.ld_unit_zero (S := S1024x64) (off := ![0, 0]) (by decide)]
  have h0 : ∀ a, (![0, 0] : Fin 2 → Nat) a = 0 := by decide
  simp only [View.readCov_fill (s := S1024x1024) arg9.view (off := ![0, 0]) _ _ _ _ h0]
  rfl

/-- The store into the scales block at the last contraction step: the block found there with eight lanes replaced. -/
theorem pieces_C_4 (hc0 : ¬cond0_0 i) (hc1 : ¬cond0_1 i) (hc2 : cond0_2 i) :
    (kernelRun0_C c i arg3 harg3 arg4 harg4 arg5 harg5 arg6 harg6 arg7 harg7 arg8 harg8 arg9 harg9 hc0 hc1 hc2 x0 x1 x2 xo4 xs0).2.1
      = [⟨Rect.unit (s := S1024x64) ![0, 0] S1024x64.size inb_S1024x64_S1024x64_0_0,
          ([0, 1, 2, 3, 4, 5, 6, 7] : List (Fin 8)).foldl
            (fun S b => put (Scalar.addi (Scalar.muli (BitVec.ofNat 32 (i 1).val) 8#32) (BitVec.ofNat 32 b.val)) S (sumOn (k0_pay3 xs0 x0 x1) x2 b))
            (shapeCast S1024x64 xo4 shapeCasts_S1024x64_S1024x64)⟩] := by
  unfold kernelRun0_C
  dsimp only
  sl_unfold_words
  simp only [View.readAt_eq_ld, harg3.read_unread, harg4.read_unread, harg5.read_unread, harg7.read_unread, harg9.read_unread,
    View.ld_unit_zero (S := S1024x1024) (off := ![0, 0]) (by decide), View.ld_unit_zero (S := S2560x1024) (off := ![0, 0]) (by decide),
    View.ld_unit_zero (S := S1024x64) (off := ![0, 0]) (by decide)]
  have h0 : ∀ a, (![0, 0] : Fin 2 → Nat) a = 0 := by decide
  simp only [View.readCov_fill (s := S1024x1024) arg9.view (off := ![0, 0]) _ _ _ _ h0]
  rfl

/-- The store into the accumulator at the last contraction step. -/
theorem pieces_C_acc (hc0 : ¬cond0_0 i) (hc1 : ¬cond0_1 i) (hc2 : cond0_2 i) :
    (kernelRun0_C c i arg3 harg3 arg4 harg4 arg5 harg5 arg6 harg6 arg7 harg7 arg8 harg8 arg9 harg9 hc0 hc1 hc2 x0 x1 x2 xo4 xs0).2.2.2.1
      = [⟨Rect.unit (s := S1024x1024) ![0, 0] S1024x1024.size inb_S1024x1024_S1024x1024_0_0, k0_pay3 xs0 x0 x1⟩] := by
  unfold kernelRun0_C
  dsimp only
  sl_unfold_words
  simp only [View.readAt_eq_ld, harg3.read_unread, harg4.read_unread, harg5.read_unread, harg7.read_unread, harg9.read_unread,
    View.ld_unit_zero (S := S1024x1024) (off := ![0, 0]) (by decide), View.ld_unit_zero (S := S2560x1024) (off := ![0, 0]) (by decide),
    View.ld_unit_zero (S := S1024x64) (off := ![0, 0]) (by decide)]

/-- The store into the accumulator at a middle contraction step. -/
theorem pieces_B_acc (hc0 : ¬cond0_0 i) (hc1 : ¬cond0_1 i) (hc2 : ¬cond0_2 i) :
    (kernelRun0_B c i arg3 harg3 arg4 harg4 arg5 harg5 arg6 harg6 arg7 harg7 arg8 harg8 arg9 harg9 hc0 hc1 hc2 x0 x1 x2 xs0).2.2.2.1
      = [⟨Rect.unit (s := S1024x1024) ![0, 0] S1024x1024.size inb_S1024x1024_S1024x1024_0_0, k0_pay3 xs0 x0 x1⟩] := by
  unfold kernelRun0_B
  dsimp only
  sl_unfold_words
  simp only [View.readAt_eq_ld, harg3.read_unread, harg4.read_unread, harg5.read_unread, harg7.read_unread, harg9.read_unread,
    View.ld_unit_zero (S := S1024x1024) (off := ![0, 0]) (by decide), View.ld_unit_zero (S := S2560x1024) (off := ![0, 0]) (by decide),
    View.ld_unit_zero (S := S1024x64) (off := ![0, 0]) (by decide)]

/-- The stores into the accumulator at the first contraction step of the first tile of a row of tiles: zeros, then the first products. -/
theorem pieces_A_acc (hc0 : cond0_0 i) (hc1 : cond0_1 i) (hc2 : ¬cond0_2 i) :
    (kernelRun0_A c i arg3 harg3 arg4 harg4 arg5 harg5 arg6 harg6 arg7 harg7 arg8 harg8 arg9 harg9 hc0 hc1 hc2 x0 x1 x2).2.2.2.1
      = [⟨Rect.unit (s := S1024x1024) ![0, 0] S1024x1024.size inb_S1024x1024_S1024x1024_0_0, k0_pay3 k0_pay2 x0 x1⟩, ⟨Rect.unit (s := S1024x1024) ![0, 0] S1024x1024.size inb_S1024x1024_S1024x1024_0_0, k0_pay2⟩] := by
  unfold kernelRun0_A
  dsimp only
  sl_unfold_words
  simp only [View.readAt_eq_ld, harg3.read_unread, harg4.read_unread, harg5.read_unread, harg7.read_unread, harg9.read_unread,
    View.ld_unit_zero (S := S1024x1024) (off := ![0, 0]) (by decide), View.ld_unit_zero (S := S2560x1024) (off := ![0, 0]) (by decide),
    View.ld_unit_zero (S := S1024x64) (off := ![0, 0]) (by decide)]
  have h0 : ∀ a, (![0, 0] : Fin 2 → Nat) a = 0 := by decide
  simp only [View.readCov_fill (s := S1024x1024) arg9.view (off := ![0, 0]) _ _ _ _ h0]
  rfl

/-- The stores into the accumulator at the first contraction step of any other tile: zeros, then the first products. -/
theorem pieces_D_acc (hc0 : ¬cond0_0 i) (hc1 : cond0_1 i) (hc2 : ¬cond0_2 i) :
    (kernelRun0_D c i arg3 harg3 arg4 harg4 arg5 harg5 arg6 harg6 arg7 harg7 arg8 harg8 arg9 harg9 hc0 hc1 hc2 x0 x1 x2).2.2.2.1
      = [⟨Rect.unit (s := S1024x1024) ![0, 0] S1024x1024.size inb_S1024x1024_S1024x1024_0_0, k0_pay3 k0_pay2 x0 x1⟩, ⟨Rect.unit (s := S1024x1024) ![0, 0] S1024x1024.size inb_S1024x1024_S1024x1024_0_0, k0_pay2⟩] := by
  unfold kernelRun0_D
  dsimp only
  sl_unfold_words
  simp only [View.readAt_eq_ld, harg3.read_unread, harg4.read_unread, harg5.read_unread, harg7.read_unread, harg9.read_unread,
    View.ld_unit_zero (S := S1024x1024) (off := ![0, 0]) (by decide), View.ld_unit_zero (S := S2560x1024) (off := ![0, 0]) (by decide),
    View.ld_unit_zero (S := S1024x64) (off := ![0, 0]) (by decide)]
  have h0 : ∀ a, (![0, 0] : Fin 2 → Nat) a = 0 := by decide
  simp only [View.readCov_fill (s := S1024x1024) arg9.view (off := ![0, 0]) _ _ _ _ h0]
  rfl

/-- The store into the scales block at the first step of a row of tiles: zeros. -/
theorem pieces_A_4 (hc0 : cond0_0 i) (hc1 : cond0_1 i) (hc2 : ¬cond0_2 i) :
    (kernelRun0_A c i arg3 harg3 arg4 harg4 arg5 harg5 arg6 harg6 arg7 harg7 arg8 harg8 arg9 harg9 hc0 hc1 hc2 x0 x1 x2).2.1
      = [⟨Rect.unit (s := S1024x64) ![0, 0] S1024x64.size inb_S1024x64_S1024x64_0_0, k0_pay1⟩] := by
  unfold kernelRun0_A
  dsimp only

end

/-! ## What each step leaves in each buffer -/

section
variable (c : Dev nD) (i : grid0.Coords) (arg3 : Memref sig .tc .vmem S2560x1024 .bf16) (harg3 : arg3.IsWhole) (arg4 : Memref sig .tc .vmem S2560x1024 .bf16) (harg4 : arg4.IsWhole) (arg5 : Memref sig .tc .vmem S1024x1024 .f32) (harg5 : arg5.IsWhole) (arg6 : Memref sig .tc .vmem S1024x1024 .i8) (harg6 : arg6.IsWhole) (arg7 : Memref sig .tc .vmem S1024x64 .f32) (harg7 : arg7.IsWhole) (arg8 : Memref sig .tc .vmem S1024x1024 .f32) (harg8 : arg8.IsWhole) (arg9 : Memref sig .tc .vmem S1024x1024 .f32) (harg9 : arg9.IsWhole)
    (x0 : Vec F S2560x1024 .bf16) (x1 : Vec F S2560x1024 .bf16) (x2 : Vec F S1024x1024 .f32) (xo4 : Vec F S1024x64 .f32) (xs0 : Vec F S1024x1024 .f32)

/-- At the first step of a row of tiles the accumulator ends with the first products over zeros. -/
theorem acc_A (hc0 : cond0_0 i) (hc1 : cond0_1 i) (hc2 : ¬cond0_2 i) :
    sout0_A_0 c i arg3 harg3 arg4 harg4 arg5 harg5 arg6 harg6 arg7 harg7 arg8 harg8 arg9 harg9 hc0 hc1 hc2 x0 x1 x2 = k0_pay3 k0_pay2 x0 x1 := by
  unfold sout0_A_0
  rw [View.read_writes_eq_canon _ _ _ (fun y => scover0_A_0 c i arg3 harg3 arg4 harg4 arg5 harg5 arg6 harg6 arg7 harg7 arg8 harg8 arg9 harg9 hc0 hc1 hc2 x0 x1 x2 y), pieces_A_acc]
  exact View.canon_cons_unit_zero (S := S1024x1024) (off := ![0, 0]) (by decide) _ _ _

/-- At a middle step the accumulator gains that step's products. -/
theorem acc_B (hc0 : ¬cond0_0 i) (hc1 : ¬cond0_1 i) (hc2 : ¬cond0_2 i) :
    sout0_B_0 c i arg3 harg3 arg4 harg4 arg5 harg5 arg6 harg6 arg7 harg7 arg8 harg8 arg9 harg9 hc0 hc1 hc2 x0 x1 x2 xs0 = k0_pay3 xs0 x0 x1 := by
  unfold sout0_B_0
  rw [View.read_writes_eq_canon _ _ _ (fun y => scover0_B_0 c i arg3 harg3 arg4 harg4 arg5 harg5 arg6 harg6 arg7 harg7 arg8 harg8 arg9 harg9 hc0 hc1 hc2 x0 x1 x2 xs0 y), pieces_B_acc]
  exact View.canon_cons_unit_zero (S := S1024x1024) (off := ![0, 0]) (by decide) _ _ _

/-- At the last step too. -/
theorem acc_C (hc0 : ¬cond0_0 i) (hc1 : ¬cond0_1 i) (hc2 : cond0_2 i) :
    sout0_C_0 c i arg3 harg3 arg4 harg4 arg5 harg5 arg6 harg6 arg7 harg7 arg8 harg8 arg9 harg9 hc0 hc1 hc2 x0 x1 x2 xo4 xs0 = k0_pay3 xs0 x0 x1 := by
  unfold sout0_C_0
  rw [View.read_writes_eq_canon _ _ _ (fun y => scover0_C_0 c i arg3 harg3 arg4 harg4 arg5 harg5 arg6 harg6 arg7 harg7 arg8 harg8 arg9 harg9 hc0 hc1 hc2 x0 x1 x2 xo4 xs0 y), pieces_C_acc]
  exact View.canon_cons_unit_zero (S := S1024x1024) (off := ![0, 0]) (by decide) _ _ _

/-- At the first step of any other tile it ends with the first products over zeros. -/
theorem acc_D (hc0 : ¬cond0_0 i) (hc1 : cond0_1 i) (hc2 : ¬cond0_2 i) :
    sout0_D_0 c i arg3 harg3 arg4 harg4 arg5 harg5 arg6 harg6 arg7 harg7 arg8 harg8 arg9 harg9 hc0 hc1 hc2 x0 x1 x2 = k0_pay3 k0_pay2 x0 x1 := by
  unfold sout0_D_0
  rw [View.read_writes_eq_canon _ _ _ (fun y => scover0_D_0 c i arg3 harg3 arg4 harg4 arg5 harg5 arg6 harg6 arg7 harg7 arg8 harg8 arg9 harg9 hc0 hc1 hc2 x0 x1 x2 y), pieces_D_acc]
  exact View.canon_cons_unit_zero (S := S1024x1024) (off := ![0, 0]) (by decide) _ _ _

/-- At the first step of a row of tiles the scales block is zeroed. -/
theorem scales_A (hc0 : cond0_0 i) (hc1 : cond0_1 i) (hc2 : ¬cond0_2 i) :
    out0_A_4 c i arg3 harg3 arg4 harg4 arg5 harg5 arg6 harg6 arg7 harg7 arg8 harg8 arg9 harg9 hc0 hc1 hc2 x0 x1 x2 = k0_pay1 := by
  unfold out0_A_4
  rw [View.read_writes_eq_canon _ _ _ (fun y => cover0_A_4 c i arg3 harg3 arg4 harg4 arg5 harg5 arg6 harg6 arg7 harg7 arg8 harg8 arg9 harg9 hc0 hc1 hc2 x0 x1 x2 y), pieces_A_4]
  exact View.canon_cons_unit_zero (S := S1024x64) (off := ![0, 0]) (by decide) _ _ _

/-- At the last step of a tile eight lanes of the scales block are replaced. -/
theorem scales_C (hc0 : ¬cond0_0 i) (hc1 : ¬cond0_1 i) (hc2 : cond0_2 i) :
    out0_C_4 c i arg3 harg3 arg4 harg4 arg5 harg5 arg6 harg6 arg7 harg7 arg8 harg8 arg9 harg9 hc0 hc1 hc2 x0 x1 x2 xo4 xs0 = ([0, 1, 2, 3, 4, 5, 6, 7] : List (Fin 8)).foldl
            (fun S b => put (Scalar.addi (Scalar.muli (BitVec.ofNat 32 (i 1).val) 8#32) (BitVec.ofNat 32 b.val)) S (sumOn (k0_pay3 xs0 x0 x1) x2 b))
            (shapeCast S1024x64 xo4 shapeCasts_S1024x64_S1024x64) := by
  unfold out0_C_4
  rw [View.read_writes_eq_canon _ _ _ (fun y => cover0_C_4 c i arg3 harg3 arg4 harg4 arg5 harg5 arg6 harg6 arg7 harg7 arg8 harg8 arg9 harg9 hc0 hc1 hc2 x0 x1 x2 xo4 xs0 y), pieces_C_4]
  exact View.canon_cons_unit_zero (S := S1024x64) (off := ![0, 0]) (by decide) _ _ _

/-- At the last step of a tile the codes block agrees, at every index, with any function `G` each of the eight column blocks is a block of. -/
theorem codes_C (hc0 : ¬cond0_0 i) (hc1 : ¬cond0_1 i) (hc2 : cond0_2 i) (G : S1024x1024.Idx → Elt F .i8)
    (hG : ∀ (b : Fin 8) (x : S1024x128.Idx), codeOf (sumOn (k0_pay3 xs0 x0 x1) x2 b) x = G ((col b).emb x)) :
    out0_C_3 c i arg3 harg3 arg4 harg4 arg5 harg5 arg6 harg6 arg7 harg7 arg8 harg8 arg9 harg9 hc0 hc1 hc2 x0 x1 x2 xo4 xs0 = G := by
  unfold out0_C_3
  rw [View.read_writes_eq_canon _ _ _ (fun y => cover0_C_3 c i arg3 harg3 arg4 harg4 arg5 harg5 arg6 harg6 arg7 harg7 arg8 harg8 arg9 harg9 hc0 hc1 hc2 x0 x1 x2 xo4 xs0 y)]
  funext y
  refine View.canon_apply_of_pieces G _ ?_ y (cover0_C_3 c i arg3 harg3 arg4 harg4 arg5 harg5 arg6 harg6 arg7 harg7 arg8 harg8 arg9 harg9 hc0 hc1 hc2 x0 x1 x2 xo4 xs0 y)
  rw [pieces_C_3]
  intro p hp
  obtain ⟨b, -, rfl⟩ := List.mem_map.mp hp
  exact hG b

/-- At the last step of a tile the error block agrees, at every index, with any function `G` each of the eight column blocks is a block of. -/
theorem rest_C (hc0 : ¬cond0_0 i) (hc1 : ¬cond0_1 i) (hc2 : cond0_2 i) (G : S1024x1024.Idx → Elt F .f32)
    (hG : ∀ (b : Fin 8) (x : S1024x128.Idx), restOf (sumOn (k0_pay3 xs0 x0 x1) x2 b) x = G ((col b).emb x)) :
    out0_C_5 c i arg3 harg3 arg4 harg4 arg5 harg5 arg6 harg6 arg7 harg7 arg8 harg8 arg9 harg9 hc0 hc1 hc2 x0 x1 x2 xo4 xs0 = G := by
  unfold out0_C_5
  rw [View.read_writes_eq_canon _ _ _ (fun y => cover0_C_5 c i arg3 harg3 arg4 harg4 arg5 harg5 arg6 harg6 arg7 harg7 arg8 harg8 arg9 harg9 hc0 hc1 hc2 x0 x1 x2 xo4 xs0 y)]
  funext y
  refine View.canon_apply_of_pieces G _ ?_ y (cover0_C_5 c i arg3 harg3 arg4 harg4 arg5 harg5 arg6 harg6 arg7 harg7 arg8 harg8 arg9 harg9 hc0 hc1 hc2 x0 x1 x2 xo4 xs0 y)
  rw [pieces_C_5]
  intro p hp
  obtain ⟨b, -, rfl⟩ := List.mem_map.mp hp
  exact hG b

end

end Cert.KernelIdeal.Cases

end
-- ==== Proof.Quantise.lean ====
module

public import Idealize.ShloMosaic.PureOps.Ideal
public import Idealize.ShloMosaic.PureOps.Vector
public import Idealize.ShloMosaic.Lib.ValueIdxCore

/-!
The block quantiser as plain functions of extended reals: the scale of one row of 128 values, the level a value takes at
a scale, its int8 code, and what the code leaves behind. Nothing here mentions a program.
-/

@[expose] public section

noncomputable section

namespace Cert.Quantise

open Idealize.ShloMosaic

/-- The largest magnitude among 128 values, starting from minus infinity. -/
def amax (r : Fin 128 → EReal) : EReal :=
  (Finset.univ : Finset (Fin 128)).fold max (Ideal.ofBits .f32 0xFF800000#32) (fun l => max (r l) (-(r l)))

/-- The scale that a largest magnitude `a` gives: 1 when `a` is zero, otherwise `a / 127`. -/
def scaleOf (a : EReal) : EReal :=
  Scalar.select (Ideal.cmp .oeq a (Ideal.ofBits .f32 0x00000000#32)) (Ideal.ofBits .f32 0x3F800000#32)
    (Ideal.div a (Ideal.ofBits .f32 0x42FE0000#32))

/-- The scale of a row of 128 values. -/
def scale (r : Fin 128 → EReal) : EReal := scaleOf (amax r)

/-- The level of `x` at scale `s`: `x / s` rounded to the nearest integer (ties to even), clipped to `[-127, 127]`. -/
def level (x s : EReal) : EReal :=
  min (Ideal.ofBits .f32 0x42FE0000#32)
    (max (Ideal.ofBits .f32 0xC2FE0000#32) (Ideal.liftRound Ideal.roundHalfEven (Ideal.div x s)))

/-- The int8 code of `x` at scale `s`. -/
def code (x s : EReal) : BitVec 8 := Ideal.fptosi 8 (level x s)

/-- What quantising `x` at scale `s` leaves behind. -/
def rest (x s : EReal) : EReal := x - level x s * s

/-- The bit pattern of the upper clip bound denotes 127. -/
theorem ofBits_127 : Ideal.ofBits .f32 0x42FE0000#32 = ((127 : ℝ) : EReal) := by
  simp [Ideal.ofBits, Ideal.ieee, -EReal.coe_mul]; norm_num

/-- The bit pattern of the lower clip bound denotes -127. -/
theorem ofBits_neg127 : Ideal.ofBits .f32 0xC2FE0000#32 = ((-127 : ℝ) : EReal) := by
  simp [Ideal.ofBits, Ideal.ieee, -EReal.coe_mul, -EReal.coe_neg]; norm_num

/-- A level is an integer between -127 and 127. -/
theorem level_eq_int (x s : EReal) : ∃ n : ℤ, -127 ≤ n ∧ n ≤ 127 ∧ level x s = ((n : ℝ) : EReal) := by
  unfold level
  rw [ofBits_127, ofBits_neg127]
  have h : ((-127 : ℝ) : EReal) ≤ ((127 : ℝ) : EReal) := EReal.coe_le_coe_iff.mpr (by norm_num)
  induction Ideal.div x s with
  | bot => exact ⟨-127, by norm_num, by norm_num, by rw [Ideal.liftRound_bot, max_bot_right, min_eq_right h]; norm_num⟩
  | top => exact ⟨127, by norm_num, by norm_num, by simp⟩
  | coe r =>
    refine ⟨min 127 (max (-127) (Ideal.roundHalfEven r)), by omega, by omega, ?_⟩
    rw [Ideal.liftRound_coe, ← EReal.coe_strictMono.monotone.map_max, ← EReal.coe_strictMono.monotone.map_min]
    norm_num

/-- Reading a code back as a number gives the level exactly: the conversion to int8 loses nothing. -/
theorem code_toInt (x s : EReal) : (((code x s).toInt : ℝ) : EReal) = level x s := by
  obtain ⟨n, hl, hu, e⟩ := level_eq_int x s
  unfold code
  rw [e, Ideal.fptosi, Ideal.toIntClamped_coe]
  have hn : (if (0:ℝ) ≤ (n:ℝ) then ⌊(n:ℝ)⌋ else ⌈(n:ℝ)⌉) = n := by simp
  rw [hn, BitVec.toInt_ofInt]
  have : (max (-((2 ^ (8 - 1) : Nat) : ℤ)) (min (((2 ^ (8 - 1) : Nat) : ℤ) - 1) n)).bmod (2 ^ 8) = n := by
    have h1 : max (-((2 ^ (8 - 1) : Nat) : ℤ)) (min (((2 ^ (8 - 1) : Nat) : ℤ) - 1) n) = n := by
      norm_num; omega
    rw [h1, Int.bmod_def]
    norm_num; omega
  rw [this]

end Cert.Quantise

end
-- ==== Proof.Shapes.lean ====
module

public import Idealize.ShloMosaic.PureOps.Ideal
public import Idealize.ShloMosaic.PureOps.Vector
public import Idealize.ShloMosaic.Lib.ValueLayout
public import Idealize.ShloMosaic.Lib.ValueLayoutCasts
public import Idealize.ShloMosaic.Lib.Pointwise
public import Idealize.ShloMosaic.Lib.StackMember

/-!
Layout operations read at an index, for arrays of any size: a column spread over columns, the largest entry along the
last axis, and a row seen as consecutive blocks.
-/

@[expose] public section

noncomputable section

namespace Cert.Shapes

open Idealize.ShloMosaic

variable {α : Type}

/-- A column spread over `b` columns reads the column's entry of the same row. -/
theorem spread2 {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The same with two leading axes. -/
theorem spread3 {a b d : Nat} (v : (⟨3, ![a, b, 1]⟩ : Shape).Idx → α) (h : (⟨3, ![a, b, 1]⟩ : Shape).Broadcasts ⟨3, ![a, b, d]⟩)
    (p : Fin a) (c : Fin b) (l : Fin d) : broadcastTo ⟨3, ![a, b, d]⟩ v h (ix3 p c l) = v (ix3 p c (0 : Fin 1)) := by
  refine broadcastTo_apply v h (ix3 p c l) (ix3 p c (0 : Fin 1)) fun ax => ?_
  match ax with
  | ⟨0, _⟩ =>
    show p.val = if a = 1 then 0 else p.val
    split
    · have := p.isLt; omega
    · rfl
  | ⟨1, _⟩ =>
    show c.val = if b = 1 then 0 else c.val
    split
    · have := c.isLt; omega
    · rfl
  | ⟨2, _⟩ => rfl

/-- The largest entry along the last of two axes. -/
theorem max2 {a b : Nat} (v : FVec Ideal ⟨2, ![a, b]⟩ .f32) (w : BitVec 32) (h : (⟨2, ![a, b]⟩ : Shape).Reduces [1] ⟨1, ![a]⟩)
    (hφ : FKind.Formats .f32) (hw : w = FKind.maximumf.neutral .f32 hφ) (p : Fin a) :
    multiReduction .maximumf [1] ⟨1, ![a]⟩ v w h hφ hw (ix1 p)
      = (Finset.univ : Finset (Fin b)).fold max (Ideal.ofBits .f32 w) fun l => v (ix2 p l) := by
  rw [multiReduction_maximumf_eq_fold, Shape.Reduces.fold_fiber_r2_a1]
  rfl

/-- The largest entry along the last of three axes. -/
theorem max3 {a b d : Nat} (v : FVec Ideal ⟨3, ![a, b, d]⟩ .f32) (w : BitVec 32) (h : (⟨3, ![a, b, d]⟩ : Shape).Reduces [2] ⟨2, ![a, b]⟩)
    (hφ : FKind.Formats .f32) (hw : w = FKind.maximumf.neutral .f32 hφ) (p : Fin a) (c : Fin b) :
    multiReduction .maximumf [2] ⟨2, ![a, b]⟩ v w h hφ hw (ix2 p c)
      = (Finset.univ : Finset (Fin d)).fold max (Ideal.ofBits .f32 w) fun l => v (ix3 p c l) := by
  rw [multiReduction_maximumf_eq_fold, Shape.Reduces.fold_fiber_r3_a2]
  rfl

/-- An array given a last axis of one entry reads the array. -/
theorem tail1 {a b : Nat} (x : (⟨2, ![a, b]⟩ : Shape).Idx → α) (h : (⟨2, ![a, b]⟩ : Shape).ShapeCasts ⟨3, ![a, b, 1]⟩)
    (p : Fin a) (c : Fin b) (z : Fin 1) : shapeCast ⟨3, ![a, b, 1]⟩ x h (ix3 p c z) = x (ix2 p c) :=
  shapeCast_apply x h _ _ (by
    rw [Shape.rowMajor_val_three, Shape.rowMajor_val_two]
    show p.val * b + c.val = (p.val * b + c.val) * 1 + z.val
    omega)

/-- A row of `b * d` entries seen as `b` blocks of `d`. -/
theorem split3 {a b d e : Nat} (x : (⟨2, ![a, e]⟩ : Shape).Idx → α) (h : (⟨2, ![a, e]⟩ : Shape).ShapeCasts ⟨3, ![a, b, d]⟩)
    (he : e = b * d) (p : Fin a) (c : Fin b) (l : Fin d) (q : Fin e) (hq : q.val = d * c.val + l.val) :
    shapeCast ⟨3, ![a, b, d]⟩ x h (ix3 p c l) = x (ix2 p q) :=
  shapeCast_apply x h _ _ (by
    rw [Shape.rowMajor_val_three, Shape.rowMajor_val_two]
    show p.val * e + q.val = (p.val * b + c.val) * d + l.val
    have hp : p.val * e = p.val * (b * d) := congrArg (p.val * ·) he
    rw [hp, hq]
    ring)

/-- `b` blocks of `d` entries seen as a row of `b * d`. -/
theorem merge3 {a b d e : Nat} (x : (⟨3, ![a, b, d]⟩ : Shape).Idx → α) (h : (⟨3, ![a, b, d]⟩ : Shape).ShapeCasts ⟨2, ![a, e]⟩)
    (he : e = b * d) (p : Fin a) (c : Fin b) (l : Fin d) (q : Fin e) (hq : q.val = d * c.val + l.val) :
    shapeCast ⟨2, ![a, e]⟩ x h (ix2 p q) = x (ix3 p c l) :=
  shapeCast_apply x h _ _ (by
    rw [Shape.rowMajor_val_three, Shape.rowMajor_val_two]
    show (p.val * b + c.val) * d + l.val = p.val * e + q.val
    have hp : p.val * e = p.val * (b * d) := congrArg (p.val * ·) he
    rw [hp, hq]
    ring)

/-- The product of two matrices over their row axes, read at an index: the sum over the rows of the products of the
    entries. -/
theorem dot_rows {k m n : Nat} {φ₁ φ₂ : FTy} (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂) (a : Fin m) (b : Fin n) :
    Host.dotGeneral (⟨[0], [0], [1], [1], [], [], w⟩ : DotDims _ _ _) prec A B (ix2 a b)
      = ∑ c : Fin k, A (ix2 c a) * B (ix2 c b) := by
  show FloatOps.dotGeneral _ prec _ A B (ix2 a b) = _
  rw [Ideal.dotGeneral_apply,
    ← Equiv.sum_comp (ValueIdx.contrEquiv1 (⟨[0], [0], [1], [1], [], [], w⟩ : DotDims _ _ _) k rfl rfl).symm]
  refine Finset.sum_congr rfl fun c _ => ?_
  have h := ValueIdx.contrEquiv1_symm_val
    (⟨[0], [0], [1], [1], [], [], w⟩ : DotDims ⟨2, ![k, m]⟩ ⟨2, ![k, n]⟩ ⟨2, ![m, n]⟩) k rfl rfl c
  have hl : (⟨[0], [0], [1], [1], [], [], w⟩ : DotDims ⟨2, ![k, m]⟩ ⟨2, ![k, n]⟩ ⟨2, ![m, n]⟩).lhsIdx (ix2 a b)
      ((ValueIdx.contrEquiv1 _ k rfl rfl).symm c) = ix2 c a := by
    funext ax; apply Fin.ext
    match ax with
    | ⟨0, _⟩ => simp [DotDims.lhsIdx]; exact h
    | ⟨1, _⟩ => simp [DotDims.lhsIdx]; rfl
  have hr : (⟨[0], [0], [1], [1], [], [], w⟩ : DotDims ⟨2, ![k, m]⟩ ⟨2, ![k, n]⟩ ⟨2, ![m, n]⟩).rhsIdx (ix2 a b)
      ((ValueIdx.contrEquiv1 _ k rfl rfl).symm c) = ix2 c b := by
    funext ax; apply Fin.ext
    match ax with
    | ⟨0, _⟩ => simp [DotDims.rhsIdx]; exact h
    | ⟨1, _⟩ => simp [DotDims.rhsIdx]; rfl
  rw [hl, hr]

end Cert.Shapes

end
-- ==== Proof.TileValue.lean ====
module

public import proofs.«01_k».proof.Proof.Tile
public import proofs.«01_k».proof.Proof.Quantise
public import proofs.«01_k».proof.Proof.Shapes
public import Idealize.ShloMosaic.Lib.Pointwise
public import Idealize.ShloMosaic.Lib.ValueIdx
public import Idealize.ShloMosaic.Lib.WordCmp

/-!
The vector functions of a block of 128 columns, read at one index over the extended reals: each is the plain quantiser
applied to the value there and to the scale of the value's row.
-/

@[expose] public section

set_option maxRecDepth 16384

noncomputable section

namespace Cert.KernelIdeal.Tile

open Cert.KernelIdeal Cert.KernelIdeal.Gen Idealize.ShloMosaic

/-- Row `r` of a block of 128 columns. -/
def rowOf (v : FVec Ideal S1024x128 .f32) (r : Fin 1024) : Fin 128 → EReal := fun l => v (ix2 r l)

/-- The block's largest magnitudes are the plain ones of its rows. -/
theorem amaxOf_apply (v : FVec Ideal S1024x128 .f32) (r : Fin 1024) (z : Fin 1) :
    amaxOf v (ix2 r z) = Quantise.amax (rowOf v r) := by
  unfold amaxOf Quantise.amax rowOf
  simp only [pointwise]
  rfl

/-- The block's scales are the plain ones of its rows. -/
theorem scaleOf_apply (v : FVec Ideal S1024x128 .f32) (r : Fin 1024) (z : Fin 1) :
    scaleOf v (ix2 r z) = Quantise.scale (rowOf v r) := by
  unfold Quantise.scale Quantise.scaleOf scaleOf
  simp only [pointwise, amaxOf_apply]

/-- A row's scale, spread over the row's 128 columns. -/
theorem scale_spread (v : FVec Ideal S1024x128 .f32) (r : Fin 1024) (l : Fin 128) :
    broadcastTo S1024x128 (scaleOf v) broadcasts_S1024x1_S1024x128 (ix2 r l) = Quantise.scale (rowOf v r) :=
  (Shapes.spread2 (scaleOf v) _ r l).trans (scaleOf_apply v r 0)

/-- The block's levels are the plain ones. -/
theorem levelOf_apply (v : FVec Ideal S1024x128 .f32) (r : Fin 1024) (l : Fin 128) :
    levelOf v (ix2 r l) = Quantise.level (v (ix2 r l)) (Quantise.scale (rowOf v r)) := by
  unfold levelOf Quantise.level
  rw [minimumf_apply, maximumf_apply, roundeven_apply, divf_apply, scale_spread]
  rfl

/-- The block's codes are the plain ones. -/
theorem codeOf_apply (v : FVec Ideal S1024x128 .f32) (r : Fin 1024) (l : Fin 128) :
    codeOf v (ix2 r l) = Quantise.code (v (ix2 r l)) (Quantise.scale (rowOf v r)) := by
  unfold Quantise.code codeOf
  rw [fptosi_apply, levelOf_apply]
  rfl

/-- What the block's levels leave behind is what the plain ones leave. -/
theorem restOf_apply (v : FVec Ideal S1024x128 .f32) (r : Fin 1024) (l : Fin 128) :
    restOf v (ix2 r l) = Quantise.rest (v (ix2 r l)) (Quantise.scale (rowOf v r)) := by
  unfold Quantise.rest restOf
  rw [subf_apply, mulf_apply, levelOf_apply, scale_spread]
  rfl

/-- A row's scale, spread over the 64 lanes of the scales buffer. -/
theorem lane_spread (v : FVec Ideal S1024x128 .f32) (r : Fin 1024) (q : Fin 64) :
    broadcastTo S1024x64 (shapeCast S1024x1 (scaleOf v) shapeCasts_S1024x1_S1024x1) broadcasts_S1024x1_S1024x64 (ix2 r q)
      = Quantise.scale (rowOf v r) := by
  rw [← scaleOf_apply v r 0]
  simp only [pointwise]
  rfl

/-- The lane number of a scales buffer's entry. -/
theorem lane_number (r : Fin 1024) (q : Fin 64) :
    iota .tc S1024x64 32 [1] iota_S1024x64_d1_w32 (ix2 r q) = BitVec.ofNat 32 q.val := by
  unfold iota
  congr 1
  show 0 * 64 + q.val = q.val
  omega

/-- Putting a block's scales into lane `w` replaces that lane by the rows' scales and keeps every other lane. -/
theorem put_apply (w : BitVec 32) (S : FVec Ideal S1024x64 .f32) (v : FVec Ideal S1024x128 .f32) (r : Fin 1024) (q : Fin 64) :
    put w S v (ix2 r q) = if BitVec.ofNat 32 q.val = w then Quantise.scale (rowOf v r) else S (ix2 r q) := by
  have h : put w S v (ix2 r q)
      = Scalar.select (IntOp.cmpi .eq (iota .tc S1024x64 32 [1] iota_S1024x64_d1_w32 (ix2 r q)) w)
          (broadcastTo S1024x64 (shapeCast S1024x1 (scaleOf v) shapeCasts_S1024x1_S1024x1) broadcasts_S1024x1_S1024x64 (ix2 r q))
          (S (ix2 r q)) := rfl
  rw [h, lane_spread, lane_number, WordCmp.cmpi_eq_eq, WordCmp.select_ofBool]
  simp only [decide_eq_true_eq]

end Cert.KernelIdeal.Tile

end
-- ==== Proof.Blocks.lean ====
module

public import proofs.«01_k».proof.Proof.Cases
public import proofs.«01_k».proof.Proof.TileValue

/-!
The blocks the kernel's windows hold at a grid point, read at one index: which entry of the argument array each is.
-/

@[expose] public section

set_option maxRecDepth 16384

noncomputable section

namespace Cert.KernelIdeal.Blocks

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- Which block of its array each input window reads at point `t`. -/
theorem index_eq : ∀ t : Fin grid0.N,
    (win0_0.index t 0 = t.val % 10 ∧ win0_0.index t 1 = t.val / 80)
    ∧ (win0_1.index t 0 = t.val % 10 ∧ win0_1.index t 1 = t.val / 10 % 8)
    ∧ (win0_2.index t 0 = t.val / 80 ∧ win0_2.index t 1 = t.val / 10 % 8)
    ∧ (grid0.coords t 1).val = t.val / 10 % 8 := by
  decide +kernel

theorem grid_lt (t : Fin grid0.N) : t.val < 640 := t.isLt

/-- The block of `dy` at point `t`. -/
theorem dy_block (c : Dev nD) (t : Fin cfg0.N) (q : Fin 2560) (r : Fin 1024) :
    (iblk m c 0 t : Vec F S2560x1024 .bf16) (ix2 q r)
      = m (c.tc.loc main_arg1) (ix2 (n0 := 25600) (n1 := 8192) ⟨2560 * (t.val % 10) + q.val, by omega⟩
          ⟨1024 * (t.val / 80) + r.val, by have := grid_lt t; omega⟩) := by
  have hi := (index_eq t).1
  unfold iblk
  rw [View.read_apply]
  show V m c main_arg1 _ = m (c.tc.loc main_arg1) _
  unfold V
  congr 1
  funext a
  apply Fin.ext
  match a with
  | ⟨0, _⟩ => show win0_0.index t 0 * 2560 + 1 * q.val = 2560 * (t.val % 10) + q.val; rw [hi.1]; omega
  | ⟨1, _⟩ => show win0_0.index t 1 * 1024 + 1 * r.val = 1024 * (t.val / 80) + r.val; rw [hi.2]; omega

/-- The block of `x` at point `t`. -/
theorem x_block (c : Dev nD) (t : Fin cfg0.N) (q : Fin 2560) (r : Fin 1024) :
    (iblk m c 1 t : Vec F S2560x1024 .bf16) (ix2 q r)
      = m (c.tc.loc main_arg0) (ix2 (n0 := 25600) (n1 := 8192) ⟨2560 * (t.val % 10) + q.val, by omega⟩
          ⟨1024 * (t.val / 10 % 8) + r.val, by omega⟩) := by
  have hi := (index_eq t).2.1
  unfold iblk
  rw [View.read_apply]
  show V m c main_arg0 _ = m (c.tc.loc main_arg0) _
  unfold V
  congr 1
  funext a
  apply Fin.ext
  match a with
  | ⟨0, _⟩ => show win0_1.index t 0 * 2560 + 1 * q.val = 2560 * (t.val % 10) + q.val; rw [hi.1]; omega
  | ⟨1, _⟩ => show win0_1.index t 1 * 1024 + 1 * r.val = 1024 * (t.val / 10 % 8) + r.val; rw [hi.2]; omega

/-- The block of `err` at point `t`. -/
theorem err_block (c : Dev nD) (t : Fin cfg0.N) (r : Fin 1024) (l : Fin 1024) :
    (iblk m c 2 t : Vec F S1024x1024 .f32) (ix2 r l)
      = m (c.tc.loc main_arg2) (ix2 (n0 := 8192) (n1 := 8192) ⟨1024 * (t.val / 80) + r.val, by have := grid_lt t; omega⟩
          ⟨1024 * (t.val / 10 % 8) + l.val, by omega⟩) := by
  have hi := (index_eq t).2.2.1
  unfold iblk
  rw [View.read_apply]
  show V m c main_arg2 _ = m (c.tc.loc main_arg2) _
  unfold V
  congr 1
  funext a
  apply Fin.ext
  match a with
  | ⟨0, _⟩ => show win0_2.index t 0 * 1024 + 1 * r.val = 1024 * (t.val / 80) + r.val; rw [hi.1]; omega
  | ⟨1, _⟩ => show win0_2.index t 1 * 1024 + 1 * l.val = 1024 * (t.val / 10 % 8) + l.val; rw [hi.2]; omega

/-- The block of `dy` at point `t`, with its shape written out. -/
abbrev dyB (c : Dev nD) (t : Fin cfg0.N) : Vec F S2560x1024 .bf16 := iblk m c 0 t
/-- The block of `x` at point `t`. -/
abbrev xB (c : Dev nD) (t : Fin cfg0.N) : Vec F S2560x1024 .bf16 := iblk m c 1 t
/-- The block of `err` at point `t`. -/
abbrev errB (c : Dev nD) (t : Fin cfg0.N) : Vec F S1024x1024 .f32 := iblk m c 2 t

/-- The accumulator after point `n`. -/
abbrev accB (c : Dev nD) (n : Nat) (hn : n < cfg0.N) : Vec F S1024x1024 .f32 := (outsAt0 m c n hn).2.2.2

theorem prev_lt (t : Fin cfg0.N) : t.val - 1 < cfg0.N := Nat.lt_of_le_of_lt (Nat.sub_le _ _) t.isLt

/-- A point that starts a tile: the accumulator is one step from zero. -/
theorem acc_first (c : Dev nD) (t : Fin cfg0.N) (h : t.val % 10 = 0) :
    accB m c t.val t.isLt = k0_pay3 k0_pay2 (dyB m c t) (xB m c t) := by
  unfold accB
  by_cases h0 : t.val % 80 = 0
  · rw [outsAt0_A m c t h0 h (by omega)]
    dsimp only
    rw [Cases.acc_A]
  · rw [outsAt0_D m c t h0 h (by omega)]
    dsimp only
    rw [Cases.acc_D]

/-- Any other point: the accumulator is one step from what the point before it left. -/
theorem acc_later (c : Dev nD) (t : Fin cfg0.N) (h : t.val % 10 ≠ 0) :
    accB m c t.val t.isLt = k0_pay3 (accB m c (t.val - 1) (prev_lt t)) (dyB m c t) (xB m c t) := by
  unfold accB
  by_cases h2 : t.val % 10 = 9
  · rw [outsAt0_C m c t (by omega) h h2]
    dsimp only
    rw [Cases.acc_C]
  · rw [outsAt0_B m c t (by omega) h h2]
    dsimp only
    rw [Cases.acc_B]

end Cert.KernelIdeal.Blocks

end
-- ==== Proof.Spec.lean ====
module

public import proofs.«01_k».proof.Proof.Quantise
public import proofs.«01_k».proof.Proof.TileValue
public import Idealize.ShloMosaic.Lib.ValueIdx

/-!
The three results as plain functions of the three arguments: the product of the transposed gradient with the
activations plus the carried error, quantised in row blocks of 128. Nothing here mentions a program.
-/

@[expose] public section

noncomputable section

namespace Cert.Spec

open Idealize.ShloMosaic

/-- A 25600 by 8192 argument. -/
abbrev Tokens : Type := (⟨2, ![25600, 8192]⟩ : Shape).Idx → EReal

/-- An 8192 by 8192 argument. -/
abbrev Square : Type := (⟨2, ![8192, 8192]⟩ : Shape).Idx → EReal

/-- The product that token `k` contributes to entry `(o, i)`; zero beyond the last token. -/
def term (x dy : Tokens) (o i : Fin 8192) (k : Nat) : EReal :=
  if h : k < 25600 then dy (ix2 ⟨k, h⟩ o) * x (ix2 ⟨k, h⟩ i) else 0

/-- The value to be quantised at entry `(o, i)`: the sum over all tokens plus the carried error. -/
def value (x dy : Tokens) (e : Square) (o i : Fin 8192) : EReal :=
  (∑ k : Fin 25600, dy (ix2 k o) * x (ix2 k i)) + e (ix2 o i)

/-- Block `b` of 128 entries of row `o`. -/
def block (v : Fin 8192 → Fin 8192 → EReal) (o : Fin 8192) (b : Fin 64) : Fin 128 → EReal :=
  fun l => v o ⟨128 * b.val + l.val, by omega⟩

/-- The block that column `i` lies in. -/
def blockOf (i : Fin 8192) : Fin 64 := ⟨i.val / 128, by omega⟩

/-- The codes of the values `v`. -/
def codes (v : Fin 8192 → Fin 8192 → EReal) (o i : Fin 8192) : BitVec 8 :=
  Quantise.code (v o i) (Quantise.scale (block v o (blockOf i)))

/-- The scales of the values `v`. -/
def scales (v : Fin 8192 → Fin 8192 → EReal) (o : Fin 8192) (b : Fin 64) : EReal :=
  Quantise.scale (block v o b)

/-- The errors left behind by the codes of the values `v`. -/
def rest (v : Fin 8192 → Fin 8192 → EReal) (o i : Fin 8192) : EReal :=
  Quantise.rest (v o i) (Quantise.scale (block v o (blockOf i)))

/-- Summing the tokens one block of 2560 after another: the first `a` blocks, then the next one. -/
theorem sum_next_block (x dy : Tokens) (o i : Fin 8192) (a : Nat) :
    ∑ k ∈ Finset.range (2560 * (a + 1)), term x dy o i k
      = ∑ k ∈ Finset.range (2560 * a), term x dy o i k + ∑ q : Fin 2560, term x dy o i (2560 * a + q.val) := by
  rw [show 2560 * (a + 1) = 2560 * a + 2560 by omega, Finset.sum_range_add,
    Finset.sum_range (fun k => term x dy o i (2560 * a + k))]

/-- All ten blocks make the whole sum. -/
theorem sum_all_blocks (x dy : Tokens) (o i : Fin 8192) :
    ∑ k ∈ Finset.range (2560 * (9 + 1)), term x dy o i k = ∑ k : Fin 25600, dy (ix2 k o) * x (ix2 k i) := by
  rw [show 2560 * (9 + 1) = 25600 by omega, Finset.sum_range]
  refine Finset.sum_congr rfl fun k _ => ?_
  unfold term
  rw [dif_pos k.isLt]

end Cert.Spec

end
-- ==== Proof.Acc.lean ====
module

public import proofs.«01_k».proof.Proof.Blocks
public import proofs.«01_k».proof.Proof.Spec
public import Idealize.ShloMosaic.Lib.ValueIdx

/-!
The accumulator over the extended reals: after every grid point it holds the sum over the tokens seen so far in the
point's tile, so at a tile's last point it holds the whole sum over the 25600 tokens.
-/

@[expose] public section

set_option maxRecDepth 16384

noncomputable section

namespace Cert.KernelIdeal.Acc

open Cert.KernelIdeal Cert.KernelIdeal.Gen Cert.KernelIdeal.Tile Cert.KernelIdeal.Blocks Idealize.ShloMosaic Idealize.ShloMosaic.TcCoe Idealize.SL.Sem

/-- Row `r` of the tile of point `n`, as a row of the whole array. -/
def rowAt (n : Nat) (hn : n < cfg0.N) (r : Fin 1024) : Fin 8192 :=
  ⟨1024 * (n / 80) + r.val, by have : n < 640 := hn; omega⟩

/-- Column `l` of the tile of point `n`, as a column of the whole array. -/
def colAt (n : Nat) (l : Fin 1024) : Fin 8192 := ⟨1024 * (n / 10 % 8) + l.val, by omega⟩

/-- One accumulation step at an index: what was there plus the products of one block of tokens. -/
theorem step_apply (A : Vec Ideal S1024x1024 .f32) (D X : Vec Ideal S2560x1024 .bf16) (r l : Fin 1024) :
    k0_pay3 A D X (ix2 r l) = A (ix2 r l) + ∑ q : Fin 2560, D (ix2 q r) * X (ix2 q l) := by
  unfold k0_pay3
  simp only [pointwise, Ideal.matmul_def]
  rw [zero_add]

/-- The accumulator starts at zero. -/
theorem start_apply (r l : Fin 1024) : (k0_pay2 : FVec Ideal S1024x1024 .f32) (ix2 r l) = 0 := by
  unfold k0_pay2
  simp only [pointwise]

variable (m : (ℓ : Loc nD τ sig) → Buf (Elt Ideal) ℓ)

/-- The argument `x`. -/
abbrev X (c : Dev nD) : Spec.Tokens := m (c.tc.loc main_arg0)
/-- The argument `dy`. -/
abbrev DY (c : Dev nD) : Spec.Tokens := m (c.tc.loc main_arg1)
/-- The argument `err`. -/
abbrev ERR (c : Dev nD) : Spec.Square := m (c.tc.loc main_arg2)

/-- The products of point `t`'s block of tokens, as the plain terms. -/
theorem block_terms (c : Dev nD) (t : Fin cfg0.N) (r l : Fin 1024) :
    ∑ q : Fin 2560, (dyB m c t (ix2 q r) : EReal) * (xB m c t (ix2 q l) : EReal)
      = ∑ q : Fin 2560, Spec.term (X m c) (DY m c) (rowAt t.val t.isLt r) (colAt t.val l) (2560 * (t.val % 10) + q.val) := by
  refine Finset.sum_congr rfl fun q _ => ?_
  unfold dyB xB
  rw [dy_block, x_block]
  unfold Spec.term
  rw [dif_pos (by omega : 2560 * (t.val % 10) + q.val < 25600)]
  rfl

/-- The accumulator after point `n`: the sum over the tokens of the blocks up to the point's own. -/
theorem acc_eq (c : Dev nD) : ∀ (n : Nat) (hn : n < cfg0.N) (r l : Fin 1024),
    accB m c n hn (ix2 r l)
      = ∑ k ∈ Finset.range (2560 * (n % 10 + 1)), Spec.term (X m c) (DY m c) (rowAt n hn r) (colAt n l) k := by
  intro n
  induction n with
  | zero =>
    intro hn r l
    rw [acc_first m c ⟨0, hn⟩ rfl, step_apply, start_apply, block_terms, Spec.sum_next_block]
    simp
  | succ n ih =>
    intro hn r l
    rw [Spec.sum_next_block]
    by_cases h : (n + 1) % 10 = 0
    · rw [acc_first m c ⟨n + 1, hn⟩ h, step_apply, start_apply, block_terms]
      simp [h]
    · rw [acc_later m c ⟨n + 1, hn⟩ h, step_apply, block_terms]
      have e := ih (Nat.lt_of_succ_lt hn) r l
      have hm : n % 10 + 1 = (n + 1) % 10 := by omega
      have hr : rowAt n (Nat.lt_of_succ_lt hn) r = rowAt (n + 1) hn r := by
        unfold rowAt; apply Fin.ext; show 1024 * (n / 80) + r.val = 1024 * ((n + 1) / 80) + r.val; omega
      have hl : colAt n l = colAt (n + 1) l := by
        unfold colAt; apply Fin.ext; show 1024 * (n / 10 % 8) + l.val = 1024 * ((n + 1) / 10 % 8) + l.val; omega
      rw [hm, hr, hl] at e
      exact congrArg (· + _) e

/-- At a tile's last point, the accumulator plus the error block is the value to be quantised. -/
theorem sum_eq (c : Dev nD) (t : Fin cfg0.N) (h : t.val % 10 = 9) (b : Fin 8) (r : Fin 1024) (l : Fin 128) :
    sumOn (accB m c t.val t.isLt) (errB m c t) b (ix2 r l)
      = Spec.value (X m c) (DY m c) (ERR m c) (rowAt t.val t.isLt r) (colAt t.val ⟨128 * b.val + l.val, by omega⟩) := by
  have hc : (col b).emb (ix2 r l) = ix2 r ⟨128 * b.val + l.val, by omega⟩ := by
    funext a
    apply Fin.ext
    match a with
    | ⟨0, _⟩ => show 0 + 1 * r.val = r.val; omega
    | ⟨1, _⟩ => show 128 * b.val + 1 * l.val = 128 * b.val + l.val; omega
  unfold sumOn
  show (accB m c t.val t.isLt) ((col b).emb (ix2 r l)) + errB m c t ((col b).emb (ix2 r l)) = _
  unfold errB
  rw [hc, acc_eq, err_block, h, Spec.sum_all_blocks]
  rfl

end Cert.KernelIdeal.Acc

end
-- ==== Proof.Tiles.lean ====
module

public import proofs.«01_k».proof.Proof.Acc

/-!
The three output blocks over the extended reals: at a tile's last point the codes block and the error block are the
quantised values of the tile, and the scales block, carried along a row of tiles, gains the tile's eight lanes.
-/

@[expose] public section

set_option maxRecDepth 16384

noncomputable section

namespace Cert.KernelIdeal.Tiles

open Cert.KernelIdeal Cert.KernelIdeal.Gen Cert.KernelIdeal.Tile Cert.KernelIdeal.Blocks Cert.KernelIdeal.Acc Idealize.ShloMosaic Idealize.ShloMosaic.TcCoe Idealize.SL.Sem

/-- Putting eight blocks' scales one after another: if every block that writes lane `q` writes `z` there, and the lane
    held `z` or is written, it holds `z` at the end. -/
theorem fold_put (w : Fin 8 → BitVec 32) (v : Fin 8 → FVec Ideal S1024x128 .f32) (r : Fin 1024) (q : Fin 64) (z : EReal) :
    ∀ (L : List (Fin 8)) (S : FVec Ideal S1024x64 .f32),
      (∀ b ∈ L, BitVec.ofNat 32 q.val = w b → Quantise.scale (rowOf (v b) r) = z) →
      (S (ix2 r q) = z ∨ ∃ b ∈ L, BitVec.ofNat 32 q.val = w b) →
      L.foldl (fun S b => put (w b) S (v b)) S (ix2 r q) = z
  | [], S, _, h => by
    rcases h with h | ⟨b, hb, _⟩
    · exact h
    · exact absurd hb List.not_mem_nil
  | b :: L, S, hw, h => by
    rw [List.foldl_cons]
    refine fold_put w v r q z L _ (fun b' hb' => hw b' (List.mem_cons_of_mem _ hb')) ?_
    by_cases hb : BitVec.ofNat 32 q.val = w b
    · left
      rw [put_apply, if_pos hb]
      exact hw b List.mem_cons_self hb
    · rcases h with h | ⟨b', hb', e⟩
      · left
        rw [put_apply, if_neg hb]
        exact h
      · rcases List.mem_cons.1 hb' with rfl | hb'
        · exact absurd e hb
        · exact Or.inr ⟨b', hb', e⟩

/-- The lane that block `b` of a tile in tile column `j` writes. -/
theorem lane_eq (j : Nat) (hj : j < 8) (b : Fin 8) (q : Fin 64) :
    BitVec.ofNat 32 q.val = Scalar.addi (Scalar.muli (BitVec.ofNat 32 j) 8#32) (BitVec.ofNat 32 b.val) ↔ q.val = 8 * j + b.val := by
  have h : Scalar.addi (Scalar.muli (BitVec.ofNat 32 j) 8#32) (BitVec.ofNat 32 b.val) = BitVec.ofNat 32 (8 * j + b.val) := by
    show BitVec.ofNat 32 j * 8#32 + BitVec.ofNat 32 b.val = _
    apply BitVec.eq_of_toNat_eq
    simp only [BitVec.toNat_add, BitVec.toNat_mul, BitVec.toNat_ofNat]
    omega
  rw [h]
  constructor
  · intro e
    have e' := congrArg BitVec.toNat e
    simp only [BitVec.toNat_ofNat] at e'
    omega
  · intro e
    rw [e]

variable (m : (ℓ : Loc nD τ sig) → Buf (Elt Ideal) ℓ)

/-- The values to be quantised, from the three arguments. -/
abbrev val (c : Dev nD) : Fin 8192 → Fin 8192 → EReal := Spec.value (X m c) (DY m c) (ERR m c)

/-- The row block of 128 that block `b` of point `n`'s tile lies in. -/
def laneAt (n : Nat) (b : Fin 8) : Fin 64 := ⟨8 * (n / 10 % 8) + b.val, by omega⟩

/-- A row of a block of the tile is a row block of the whole array. -/
theorem row_eq (c : Dev nD) (t : Fin cfg0.N) (h : t.val % 10 = 9) (b : Fin 8) (r : Fin 1024) :
    rowOf (sumOn (accB m c t.val t.isLt) (errB m c t) b) r = Spec.block (val m c) (rowAt t.val t.isLt r) (laneAt t.val b) := by
  funext l
  unfold rowOf Spec.block
  rw [sum_eq m c t h]
  congr 1
  apply Fin.ext
  show 1024 * (t.val / 10 % 8) + (128 * b.val + l.val) = 128 * (8 * (t.val / 10 % 8) + b.val) + l.val
  omega

/-- The row block of a column of the tile. -/
theorem blockOf_eq (t : Fin cfg0.N) (b : Fin 8) (l : Fin 128) :
    Spec.blockOf (colAt t.val ⟨128 * b.val + l.val, by omega⟩) = laneAt t.val b := by
  apply Fin.ext
  show (1024 * (t.val / 10 % 8) + (128 * b.val + l.val)) / 128 = 8 * (t.val / 10 % 8) + b.val
  omega

/-- A column block's index inside the tile. -/
theorem col_emb (b : Fin 8) (r : Fin 1024) (l : Fin 128) :
    (col b).emb (ix2 r l) = ix2 r ⟨128 * b.val + l.val, by omega⟩ := by
  funext a
  apply Fin.ext
  match a with
  | ⟨0, _⟩ => show 0 + 1 * r.val = r.val; omega
  | ⟨1, _⟩ => show 128 * b.val + 1 * l.val = 128 * b.val + l.val; omega

/-- The quantised codes of the tile of point `n`. -/
def codesTile (c : Dev nD) (n : Nat) (hn : n < cfg0.N) : S1024x1024.Idx → BitVec 8 :=
  fun y => Spec.codes (val m c) (rowAt n hn (y 0)) (colAt n (y 1))

/-- The code at one entry of one column block of a finished tile. -/
theorem code_entry (c : Dev nD) (t : Fin cfg0.N) (h : t.val % 10 = 9) (b : Fin 8) (r : Fin 1024) (l : Fin 128) :
    codeOf (sumOn (accB m c t.val t.isLt) (errB m c t) b) (ix2 r l)
      = Spec.codes (val m c) (rowAt t.val t.isLt r) (colAt t.val ⟨128 * b.val + l.val, by omega⟩) := by
  rw [codeOf_apply, row_eq m c t h, sum_eq m c t h]
  unfold Spec.codes
  rw [blockOf_eq t b l]

/-- The codes block at a tile's last point. -/
theorem codes_eq (c : Dev nD) (t : Fin cfg0.N) (h : t.val % 10 = 9) :
    (outsAt0 m c t.val t.isLt).1
      = codesTile m c t.val t.isLt := by
  have ha := acc_later m c t (by omega)
  rw [outsAt0_C m c t (by omega) (by omega) h]
  dsimp only
  apply Cases.codes_C
  intro b x
  obtain ⟨r, l, rfl⟩ : ∃ r l, x = ix2 r l := ⟨x 0, x 1, eq_ix2 x⟩
  rw [← ha]
  rw [col_emb]
  exact code_entry m c t h b r l

/-- The errors left behind of the tile of point `n`. -/
def restTile (c : Dev nD) (n : Nat) (hn : n < cfg0.N) : S1024x1024.Idx → EReal :=
  fun y => Spec.rest (val m c) (rowAt n hn (y 0)) (colAt n (y 1))

/-- The error at one entry of one column block of a finished tile. -/
theorem rest_entry (c : Dev nD) (t : Fin cfg0.N) (h : t.val % 10 = 9) (b : Fin 8) (r : Fin 1024) (l : Fin 128) :
    restOf (sumOn (accB m c t.val t.isLt) (errB m c t) b) (ix2 r l)
      = Spec.rest (val m c) (rowAt t.val t.isLt r) (colAt t.val ⟨128 * b.val + l.val, by omega⟩) := by
  rw [restOf_apply, row_eq m c t h, sum_eq m c t h]
  unfold Spec.rest
  rw [blockOf_eq t b l]

/-- The error block at a tile's last point. -/
theorem rest_eq (c : Dev nD) (t : Fin cfg0.N) (h : t.val % 10 = 9) :
    (outsAt0 m c t.val t.isLt).2.2.1
      = restTile m c t.val t.isLt := by
  have ha := acc_later m c t (by omega)
  rw [outsAt0_C m c t (by omega) (by omega) h]
  dsimp only
  apply Cases.rest_C
  intro b x
  obtain ⟨r, l, rfl⟩ : ∃ r l, x = ix2 r l := ⟨x 0, x 1, eq_ix2 x⟩
  rw [← ha]
  rw [col_emb]
  exact rest_entry m c t h b r l

/-- The scales block after point `n`. -/
abbrev scalesB (c : Dev nD) (n : Nat) (hn : n < cfg0.N) : Vec Ideal S1024x64 .f32 := (outsAt0 m c n hn).2.1

/-- At a point that is not a tile's last and does not start a row of tiles the scales block is carried. -/
theorem scales_carried (c : Dev nD) (t : Fin cfg0.N) (h0 : t.val % 80 ≠ 0) (h2 : t.val % 10 ≠ 9) :
    scalesB m c t.val t.isLt = scalesB m c (t.val - 1) (prev_lt t) := by
  unfold scalesB
  by_cases h1 : t.val % 10 = 0
  · rw [outsAt0_D m c t h0 h1 h2]
    rfl
  · rw [outsAt0_B m c t h0 h1 h2]
    rfl

/-- At a tile's last point the tile's eight lanes are put into the scales block. -/
theorem scales_last (c : Dev nD) (t : Fin cfg0.N) (h : t.val % 10 = 9) :
    scalesB m c t.val t.isLt
      = ([0, 1, 2, 3, 4, 5, 6, 7] : List (Fin 8)).foldl
          (fun S b => put (Scalar.addi (Scalar.muli (BitVec.ofNat 32 (t.val / 10 % 8)) 8#32) (BitVec.ofNat 32 b.val)) S
            (sumOn (accB m c t.val t.isLt) (errB m c t) b))
          (scalesB m c (t.val - 1) (prev_lt t)) := by
  have ha := acc_later m c t (by omega)
  unfold scalesB
  rw [outsAt0_C m c t (by omega) (by omega) h]
  dsimp only
  rw [Cases.scales_C, ← ha, (index_eq t).2.2.2, shapeCast_id]

/-- How many lanes of the scales block are final after point `n`: eight for every finished tile of the row. -/
def done (n : Nat) : Nat := 8 * (n / 10 % 8 + if n % 10 = 9 then 1 else 0)

/-- The finished lanes of the scales block hold the scales of their row blocks. -/
theorem scales_eq (c : Dev nD) : ∀ (n : Nat) (hn : n < cfg0.N) (r : Fin 1024) (q : Fin 64), q.val < done n →
    scalesB m c n hn (ix2 r q) = Spec.scales (val m c) (rowAt n hn r) q := by
  intro n
  induction n with
  | zero =>
    intro hn r q hq
    exact absurd hq (by unfold done; simp)
  | succ n ih =>
    intro hn r q hq
    by_cases h0 : (n + 1) % 80 = 0
    · exact absurd hq (by unfold done; rw [if_neg (by omega)]; omega)
    · have hr : rowAt n (Nat.lt_of_succ_lt hn) r = rowAt (n + 1) hn r := by
        unfold rowAt; apply Fin.ext; show 1024 * (n / 80) + r.val = 1024 * ((n + 1) / 80) + r.val; omega
      have e := ih (Nat.lt_of_succ_lt hn) r q
      rw [hr] at e
      by_cases h2 : (n + 1) % 10 = 9
      · rw [scales_last m c ⟨n + 1, hn⟩ h2]
        refine fold_put _ _ r q _ _ _ ?_ ?_
        · intro b _ hb
          rw [row_eq m c ⟨n + 1, hn⟩ h2]
          have hl : q = laneAt (n + 1) b := Fin.ext ((lane_eq _ (by omega) b q).1 hb)
          rw [hl]
          rfl
        · by_cases hq' : q.val < done n
          · exact Or.inl (e hq')
          · right
            unfold done at hq hq'
            rw [if_pos h2] at hq
            rw [if_neg (by omega)] at hq'
            refine ⟨⟨q.val - 8 * ((n + 1) / 10 % 8), by omega⟩, ?_, ?_⟩
            · generalize (⟨q.val - 8 * ((n + 1) / 10 % 8), by omega⟩ : Fin 8) = b
              revert b; decide
            · rw [lane_eq _ (by omega)]
              show q.val = 8 * ((n + 1) / 10 % 8) + (q.val - 8 * ((n + 1) / 10 % 8))
              omega
      · rw [scales_carried m c ⟨n + 1, hn⟩ h0 h2]
        refine e ?_
        unfold done at hq ⊢
        rw [if_neg h2] at hq
        split
        · omega
        · omega

/-- At the last point of a row of tiles the scales block is complete. -/
theorem scales_complete (c : Dev nD) (t : Fin cfg0.N) (h : t.val % 80 = 79) :
    (outsAt0 m c t.val t.isLt).2.1 = fun y : S1024x64.Idx => Spec.scales (val m c) (rowAt t.val t.isLt (y 0)) (y 1) := by
  funext y
  rw [eq_ix2 y]
  refine scales_eq m c t.val t.isLt _ _ ?_
  unfold done
  rw [if_pos (by omega)]
  have : (y 1).val < 64 := (y 1).isLt
  show (y 1).val < _
  omega

end Cert.KernelIdeal.Tiles

end
-- ==== Proof.Arrays.lean ====
module

public import proofs.«01_k».proof.Proof.Tiles

/-!
The kernel's three result arrays over the extended reals, as plain functions of its arguments.
-/

@[expose] public section

set_option maxRecDepth 16384

noncomputable section

namespace Cert.KernelIdeal.Arrays

open Cert.KernelIdeal Cert.KernelIdeal.Gen Cert.KernelIdeal.Acc Cert.KernelIdeal.Tiles Idealize.ShloMosaic Idealize.ShloMosaic.TcCoe Idealize.SL.Sem

variable (m : (ℓ : Loc nD τ sig) → Buf (Elt Ideal) ℓ)

/-- The codes array. -/
theorem codes_array (c : Dev nD) (o i : Fin 8192) :
    Value.G3 m c (ix2 o i) = Spec.codes (val m c) o i := by
  have hn : 10 * (8 * (o.val / 1024) + i.val / 1024) + 9 < cfg0.N := by
    show _ < 640
    omega
  have hp : Value.pt3Of (ix2 o i) = 10 * (8 * (o.val / 1024) + i.val / 1024) + 9 := by
    show 10 * (8 * (o.val / 1024 - 0) + 1 * (i.val / 1024 - 0)) + 9 = _
    omega
  unfold Value.G3
  rw [dif_pos (lt_of_eq_of_lt hp hn), ← Value.outsAt0_sweep m c _ (lt_of_eq_of_lt hp hn)]
  simp only [hp]
  rw [codes_eq m c ⟨_, hn⟩ (by show (10 * (8 * (o.val / 1024) + i.val / 1024) + 9) % 10 = 9; omega)]
  unfold codesTile
  congr 1
  · apply Fin.ext
    show 1024 * ((10 * (8 * (o.val / 1024) + i.val / 1024) + 9) / 80) + o.val % 1024 = o.val
    omega
  · apply Fin.ext
    show 1024 * ((10 * (8 * (o.val / 1024) + i.val / 1024) + 9) / 10 % 8) + i.val % 1024 = i.val
    omega

/-- The scales array. -/
theorem scales_array (c : Dev nD) (o : Fin 8192) (b : Fin 64) :
    Value.G4 m c (ix2 o b) = Spec.scales (val m c) o b := by
  have hn : 80 * (o.val / 1024) + 79 < cfg0.N := by
    show _ < 640
    omega
  have hp : Value.pt4Of (ix2 o b) = 80 * (o.val / 1024) + 79 := by
    show 80 * (1 * (o.val / 1024 - 0) + 1 * (b.val / 64 - 0)) + 79 = _
    omega
  unfold Value.G4
  rw [dif_pos (lt_of_eq_of_lt hp hn), ← Value.outsAt0_sweep m c _ (lt_of_eq_of_lt hp hn)]
  simp only [hp]
  rw [scales_complete m c ⟨_, hn⟩ (by show (80 * (o.val / 1024) + 79) % 80 = 79; omega)]
  show Spec.scales _ _ _ = _
  congr 1
  · apply Fin.ext
    show 1024 * ((80 * (o.val / 1024) + 79) / 80) + o.val % 1024 = o.val
    omega
  · apply Fin.ext
    show b.val % 64 = b.val
    omega

/-- The array of errors left behind. -/
theorem rest_array (c : Dev nD) (o i : Fin 8192) :
    Value.G5 m c (ix2 o i) = Spec.rest (val m c) o i := by
  have hn : 10 * (8 * (o.val / 1024) + i.val / 1024) + 9 < cfg0.N := by
    show _ < 640
    omega
  have hp : Value.pt5Of (ix2 o i) = 10 * (8 * (o.val / 1024) + i.val / 1024) + 9 := by
    show 10 * (8 * (o.val / 1024 - 0) + 1 * (i.val / 1024 - 0)) + 9 = _
    omega
  unfold Value.G5
  rw [dif_pos (lt_of_eq_of_lt hp hn), ← Value.outsAt0_sweep m c _ (lt_of_eq_of_lt hp hn)]
  simp only [hp]
  rw [rest_eq m c ⟨_, hn⟩ (by show (10 * (8 * (o.val / 1024) + i.val / 1024) + 9) % 10 = 9; omega)]
  unfold restTile
  congr 1
  · apply Fin.ext
    show 1024 * ((10 * (8 * (o.val / 1024) + i.val / 1024) + 9) / 80) + o.val % 1024 = o.val
    omega
  · apply Fin.ext
    show 1024 * ((10 * (8 * (o.val / 1024) + i.val / 1024) + 9) / 10 % 8) + i.val % 1024 = i.val
    omega

end Cert.KernelIdeal.Arrays

end
-- ==== Proof.RefQuant.lean ====
module

public import proofs.«01_k».proof.Proof.Gen.ReferenceIdeal.Value
public import proofs.«01_k».proof.Proof.Arrays

/-!
What the reference's quantiser computes from the array of values, read at one index over the extended reals.
-/

@[expose] public section

set_option maxRecDepth 16384

noncomputable section

namespace Cert.ReferenceIdeal.Quant

open Cert.ReferenceIdeal Cert.ReferenceIdeal.Gen Idealize.ShloMosaic

/-- The array of values as a function of row and column. -/
abbrev at2 (P : FVec Ideal S8192x8192 .f32) : Fin 8192 → Fin 8192 → EReal := fun o i => P (ix2 o i)

/-- The values in row blocks of 128. -/
theorem pay2_apply (P : FVec Ideal S8192x8192 .f32) (o : Fin 8192) (b : Fin 64) (l : Fin 128) :
    k0_pay2 (F := Ideal) P (ix3 o b l) = Spec.block (at2 P) o b l := by
  unfold k0_pay2 k0_pay1
  rw [shapeCast_id]
  exact Shapes.split3 P shapeCasts_S8192x8192_S8192x64x128 (by decide) o b l _ rfl

/-- The largest magnitudes of the blocks. -/
theorem amax_apply (P : FVec Ideal S8192x8192 .f32) (o : Fin 8192) (b : Fin 64) :
    multiReduction .maximumf [2] S8192x64 (absf (k0_pay2 (F := Ideal) P)) 0xFF800000 reduces_S8192x64x128_S8192x64 (.inl rfl) rfl
      (ix2 o b) = Quantise.amax (Spec.block (at2 P) o b) := by
  refine (Shapes.max3 (absf (k0_pay2 (F := Ideal) P)) _ _ _ _ o b).trans ?_
  unfold Quantise.amax
  refine congrArg (fun f => Finset.fold max (Ideal.ofBits .f32 0xFF800000) f Finset.univ) (funext fun l => ?_)
  rw [← pay2_apply]
  rfl

/-- The scales. -/
theorem pay3_apply (P : FVec Ideal S8192x8192 .f32) (o : Fin 8192) (b : Fin 64) :
    k0_pay3 (F := Ideal) P (ix2 o b) = Spec.scales (at2 P) o b := by
  unfold k0_pay3 Spec.scales Quantise.scale Quantise.scaleOf
  rw [← amax_apply, ValueIdx.select_apply, ValueIdx.cmpf_apply, divf_apply]
  rfl

/-- The scales, spread over the 128 columns of their blocks. -/
theorem spread_apply (P : FVec Ideal S8192x8192 .f32) (o : Fin 8192) (b : Fin 64) (l : Fin 128) :
    broadcastTo S8192x64x128 (shapeCast S8192x64x1 (k0_pay3 (F := Ideal) P) shapeCasts_S8192x64_S8192x64x1)
      broadcasts_S8192x64x1_S8192x64x128 (ix3 o b l) = Spec.scales (at2 P) o b :=
  (Shapes.spread3 (shapeCast S8192x64x1 (k0_pay3 (F := Ideal) P) shapeCasts_S8192x64_S8192x64x1) _ o b l).trans
    ((Shapes.tail1 (k0_pay3 (F := Ideal) P) shapeCasts_S8192x64_S8192x64x1 o b 0).trans (pay3_apply P o b))

/-- A column's place inside its block. -/
def inBlock (i : Fin 8192) : Fin 128 := ⟨i.val % 128, Nat.mod_lt _ (by decide)⟩

/-- A column is the one its block and its place inside the block name. -/
theorem place (i : Fin 8192) : i.val = 128 * (Spec.blockOf i).val + (inBlock i).val := (Nat.div_add_mod i.val 128).symm

/-- The value at a column, found through the column's block. -/
theorem block_place (P : FVec Ideal S8192x8192 .f32) (o i : Fin 8192) :
    Spec.block (at2 P) o (Spec.blockOf i) (inBlock i) = P (ix2 o i) :=
  congrArg (fun q => P (ix2 o q)) (Fin.ext (place i).symm)

/-- The codes. -/
theorem pay4_apply (P : FVec Ideal S8192x8192 .f32) (o i : Fin 8192) :
    k0_pay4 (F := Ideal) P (ix2 o i) = Spec.codes (at2 P) o i := by
  unfold k0_pay4
  refine (Shapes.merge3 _ shapeCasts_S8192x64x128_S8192x8192 (by decide) o (Spec.blockOf i) (inBlock i) i (place i)).trans ?_
  rw [fptosi_apply, minimumf_apply, maximumf_apply, roundeven_apply, divf_apply, spread_apply, pay2_apply, block_place]
  rfl

/-- The errors left behind. -/
theorem pay5_apply (P : FVec Ideal S8192x8192 .f32) (o i : Fin 8192) :
    k0_pay5 (F := Ideal) P (ix2 o i) = Spec.rest (at2 P) o i := by
  unfold k0_pay5 k0_pay1
  rw [subf_apply, shapeCast_id]
  have h : shapeCast S8192x8192
      (mulf (shapeCast S8192x64x128 (sitofp .f32 (k0_pay4 (F := Ideal) P)) shapeCasts_S8192x8192_S8192x64x128)
        (broadcastTo S8192x64x128 (shapeCast S8192x64x1 (k0_pay3 (F := Ideal) P) shapeCasts_S8192x64_S8192x64x1)
          broadcasts_S8192x64x1_S8192x64x128)) shapeCasts_S8192x64x128_S8192x8192 (ix2 o i)
      = Quantise.level (P (ix2 o i)) (Spec.scales (at2 P) o (Spec.blockOf i)) * Spec.scales (at2 P) o (Spec.blockOf i) := by
    refine (Shapes.merge3 _ shapeCasts_S8192x64x128_S8192x8192 (by decide) o (Spec.blockOf i) (inBlock i) i (place i)).trans ?_
    rw [mulf_apply, spread_apply]
    refine congrArg (fun z => z * Spec.scales (at2 P) o (Spec.blockOf i)) ?_
    refine (Shapes.split3 _ shapeCasts_S8192x8192_S8192x64x128 (by decide) o (Spec.blockOf i) (inBlock i) i (place i)).trans ?_
    rw [ValueIdx.sitofp_apply, pay4_apply]
    exact Quantise.code_toInt _ _
  rw [h]
  rfl

end Cert.ReferenceIdeal.Quant

end
-- ==== Proof.Reference.lean ====
module

public import proofs.«01_k».proof.Proof.RefQuant

/-!
The reference's three result arrays after its run: the plain quantiser applied to the values that the plain formula
gives on the reference's arguments.
-/

@[expose] public section

set_option maxRecDepth 16384

noncomputable section

namespace Cert.ReferenceIdeal.Result

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ)

/-- The one grid point. -/
def t₀ : Fin cfg0.N := ⟨0, by decide⟩

/-- The array of values that the reference's quantiser reads. -/
def P (c : Dev nD) : FVec Ideal S8192x8192 .f32 := V m c main_v1

/-- The plain formula's values on the reference's arguments. -/
def val (c : Dev nD) : Fin 8192 → Fin 8192 → EReal :=
  Spec.value (m ((c.tc : Thread nD τ).loc main_arg0)) (m ((c.tc : Thread nD τ).loc main_arg1))
    (m ((c.tc : Thread nD τ).loc main_arg2))

/-- The array of values is the product of the two token arrays over the tokens, plus the carried error. -/
theorem P_eq (c : Dev nD) : P m c
    = addf (Host.dotGeneral (φ₁ := .bf16) (φ₂ := .bf16) dot_S25600x8192_S25600x8192_S8192x8192_0_0_1_1_n_n none
        (m ((c.tc : Thread nD τ).loc main_arg1)) (m ((c.tc : Thread nD τ).loc main_arg0)))
        (m ((c.tc : Thread nD τ).loc main_arg2)) := by
  unfold P V
  rfl

/-- The array of values holds the plain formula's. -/
theorem P_apply (c : Dev nD) : Quant.at2 (P m c) = val m c := by
  funext o i
  show P m c (ix2 o i) = _
  rw [P_eq, addf_apply]
  exact congrArg (fun z => z + m ((c.tc : Thread nD τ).loc main_arg2) (ix2 o i))
    (Shapes.dot_rows (φ₁ := .bf16) (φ₂ := .bf16) dot_S25600x8192_S25600x8192_S8192x8192_0_0_1_1_n_n.wf none
      (m ((c.tc : Thread nD τ).loc main_arg1)) (m ((c.tc : Thread nD τ).loc main_arg0)) o i)

/-- The quantiser's load reads the whole array of values and its stores leave their payloads. -/
theorem out1_eq (x : Vec Ideal S8192x8192 .f32) : out0_1 x = k0_pay4 (F := Ideal) x := by
  have hz : (![0, 0] : Fin S8192x8192.rank → Nat) = fun _ => 0 := funext fun a => by fin_cases a <;> rfl
  unfold out0_1
  rw [View.canon_unit_zero hz, View.ld_unit_zero hz]

/-- The same for the scales. -/
theorem out2_eq (x : Vec Ideal S8192x8192 .f32) : out0_2 x = k0_pay3 (F := Ideal) x := by
  have hz : (![0, 0] : Fin S8192x8192.rank → Nat) = fun _ => 0 := funext fun a => by fin_cases a <;> rfl
  have hz' : (![0, 0] : Fin S8192x64.rank → Nat) = fun _ => 0 := funext fun a => by fin_cases a <;> rfl
  unfold out0_2
  rw [View.canon_unit_zero hz', View.ld_unit_zero hz]

/-- The same for the errors left behind. -/
theorem out3_eq (x : Vec Ideal S8192x8192 .f32) : out0_3 x = k0_pay5 (F := Ideal) x := by
  have hz : (![0, 0] : Fin S8192x8192.rank → Nat) = fun _ => 0 := funext fun a => by fin_cases a <;> rfl
  unfold out0_3
  rw [View.canon_unit_zero hz, View.ld_unit_zero hz]

/-- The block that the one point reads is the whole array of values. -/
theorem iblk_eq (c : Dev nD) : iblk m c 0 t₀ = P m c := by
  have hz : (fun a => (win0_0.index t₀) a * main_v1.ty.shape.size a) = fun _ => 0 :=
    funext fun a => by fin_cases a <;> decide
  have hr := fun f => Memref.read_access_unit_zero (Elt Ideal) main_v1 hz (fun a => by fin_cases a <;> decide) f
  unfold iblk
  rw [hr]
  rfl

/-- The codes after the run. -/
theorem codes_final (c : Dev nD) : (dats m 0 c).arrAt 1 cfg0.N = k0_pay4 (F := Ideal) (P m c) := by
  have ho := Value.blocks1 m c t₀ (by decide)
  have hz : (fun a => (win0_1.index t₀) a * main_v2_0.ty.shape.size a) = fun _ => 0 :=
    funext fun a => by fin_cases a <;> decide
  have hr := fun f => Memref.read_access_unit_zero (Elt Ideal) main_v2_0 hz (fun a => by fin_cases a <;> decide) f
  rw [hr, Value.flushed1, iblk_eq, out1_eq] at ho
  exact ho

/-- The scales after the run. -/
theorem scales_final (c : Dev nD) : (dats m 0 c).arrAt 2 cfg0.N = k0_pay3 (F := Ideal) (P m c) := by
  have ho := Value.blocks2 m c t₀ (by decide)
  have hz : (fun a => (win0_2.index t₀) a * main_v2_1.ty.shape.size a) = fun _ => 0 :=
    funext fun a => by fin_cases a <;> decide
  have hr := fun f => Memref.read_access_unit_zero (Elt Ideal) main_v2_1 hz (fun a => by fin_cases a <;> decide) f
  rw [hr, Value.flushed2, iblk_eq, out2_eq] at ho
  exact ho

/-- The errors left behind after the run. -/
theorem rest_final (c : Dev nD) : (dats m 0 c).arrAt 3 cfg0.N = k0_pay5 (F := Ideal) (P m c) := by
  have ho := Value.blocks3 m c t₀ (by decide)
  have hz : (fun a => (win0_3.index t₀) a * main_v2_2.ty.shape.size a) = fun _ => 0 :=
    funext fun a => by fin_cases a <;> decide
  have hr := fun f => Memref.read_access_unit_zero (Elt Ideal) main_v2_2 hz (fun a => by fin_cases a <;> decide) f
  rw [hr, Value.flushed3, iblk_eq, out3_eq] at ho
  exact ho

/-- The codes after the run are the plain ones. -/
theorem codes_array (c : Dev nD) (o i : Fin 8192) :
    k0_pay4 (F := Ideal) (P m c) (ix2 o i) = Spec.codes (val m c) o i := by
  rw [Quant.pay4_apply, P_apply]

/-- The scales after the run are the plain ones. -/
theorem scales_array (c : Dev nD) (o : Fin 8192) (b : Fin 64) :
    k0_pay3 (F := Ideal) (P m c) (ix2 o b) = Spec.scales (val m c) o b := by
  rw [Quant.pay3_apply, P_apply]

/-- The errors left behind after the run are the plain ones. -/
theorem rest_array (c : Dev nD) (o i : Fin 8192) :
    k0_pay5 (F := Ideal) (P m c) (ix2 o i) = Spec.rest (val m c) o i := by
  rw [Quant.pay5_apply, P_apply]

end Cert.ReferenceIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel and the reference give the same codes, scales and left-behind errors over the extended reals: each array
    of either holds the plain quantiser's result on the plain formula's values of the arguments. -/
theorem algebraic : Cert.algebraic_KernelIdeal_ReferenceIdeal (hKernelIdeal := Cert.KernelIdeal.Gen.facts)
    (hReferenceIdeal := Cert.ReferenceIdeal.Gen.facts) := fun m ρ m' ρ' _ hag => by
  have hval : ∀ c, ReferenceIdeal.Result.val m' c = KernelIdeal.Tiles.val m c := fun c => by
    unfold ReferenceIdeal.Result.val KernelIdeal.Tiles.val
    exact congr (congr (congrArg Spec.value (hag c).1) (hag c).2.1) (hag c).2.2
  refine ⟨fun c => KernelIdeal.Value.G3 m c, fun c => KernelIdeal.Value.G4 m c, fun c => KernelIdeal.Value.G5 m c,
    KernelIdeal.Value.run m ρ, (θ_run _ _ _).mono (fun _ h c => ⟨(h c).1.trans ?_, (h c).2.1.trans ?_, (h c).2.2.1.trans ?_,
      (h c).2.2.2⟩) (ReferenceIdeal.Value.run_blocks m' ρ')⟩
  · refine (ReferenceIdeal.Result.codes_final m' c).trans (funext fun x => ?_)
    obtain ⟨o, i, rfl⟩ : ∃ (o i : Fin 8192), x = ix2 o i := ⟨x 0, x 1, eq_ix2 x⟩
    exact (ReferenceIdeal.Result.codes_array m' c o i).trans
      ((congrArg (fun v => Spec.codes v o i) (hval c)).trans (KernelIdeal.Arrays.codes_array m c o i).symm)
  · refine (ReferenceIdeal.Result.scales_final m' c).trans (funext fun x => ?_)
    obtain ⟨o, b, rfl⟩ : ∃ (o : Fin 8192) (b : Fin 64), x = ix2 o b := ⟨x 0, x 1, eq_ix2 x⟩
    exact (ReferenceIdeal.Result.scales_array m' c o b).trans
      ((congrArg (fun v => Spec.scales v o b) (hval c)).trans (KernelIdeal.Arrays.scales_array m c o b).symm)
  · refine (ReferenceIdeal.Result.rest_final m' c).trans (funext fun x => ?_)
    obtain ⟨o, i, rfl⟩ : ∃ (o i : Fin 8192), x = ix2 o i := ⟨x 0, x 1, eq_ix2 x⟩
    exact (ReferenceIdeal.Result.rest_array m' c o i).trans
      ((congrArg (fun v => Spec.rest v o i) (hval c)).trans (KernelIdeal.Arrays.rest_array m c o i).symm)

/-- All five claims: the three programs end without fault and keep their arguments, the ideal program is the kernel's, and
    the kernel computes what the reference computes. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    fun m ρ _ => Cert.ReferenceIdeal.Gen.frame m ρ, trivial, algebraic⟩

end Cert.Proof

end
